-- ==== Defs.lean ====
def Pre_Kernel [hPre_prefix_in_range : Cert.Pre_prefix_in_range.Facts] (m : (ℓ : Loc Cert.Kernel.nD Cert.Kernel.τ Cert.Kernel.sig) → Buf (Elt Bits) ℓ) : Prop :=
  ∀ c : Dev Cert.Kernel.nD,
    (Cert.Pre_prefix_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_prefix_in_range : Cert.Pre_prefix_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_prefix_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_prefix_in_range [hPre_prefix_in_range : Cert.Pre_prefix_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_prefix_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_prefix_in_range : Cert.Pre_prefix_in_range.Facts] (m : (ℓ : Loc Cert.Reference.nD Cert.Reference.τ Cert.Reference.sig) → Buf (Elt Bits) ℓ) : Prop :=
  ∀ c : Dev Cert.Reference.nD,
    (Cert.Pre_prefix_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_prefix_in_range : Cert.Pre_prefix_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_prefix_in_range : Cert.Pre_prefix_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_prefix_in_range [hReferenceIdeal : Cert.ReferenceIdeal.Facts] [hPre_prefix_in_range : Cert.Pre_prefix_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_prefix_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_prefix_in_range : Cert.Pre_prefix_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_prefix_in_range : Cert.Pre_prefix_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_prefix_in_range : Cert.Pre_prefix_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_prefix_in_range : Cert.Pre_prefix_in_range.Facts),
    quiescent_Kernel (hKernel := hKernel) (hPre_prefix_in_range := hPre_prefix_in_range)
    ∧ quiescent_KernelIdeal (hKernelIdeal := hKernelIdeal) (hPre_prefix_in_range := hPre_prefix_in_range)
    ∧ quiescent_ReferenceIdeal (hReferenceIdeal := hReferenceIdeal)
    ∧ quiescent_ReferenceIdeal_pre_prefix_in_range (hReferenceIdeal := hReferenceIdeal) (hPre_prefix_in_range := hPre_prefix_in_range)
    ∧ quiescent_Reference (hReference := hReference) (hPre_prefix_in_range := hPre_prefix_in_range)
    ∧ preserves_Kernel_KernelIdeal
    ∧ algebraic_KernelIdeal_ReferenceIdeal (hKernelIdeal := hKernelIdeal) (hReferenceIdeal := hReferenceIdeal) (hPre_prefix_in_range := hPre_prefix_in_range)
    ∧ bitexact_Kernel_Reference (hKernel := hKernel) (hReference := hReference) (hPre_prefix_in_range := hPre_prefix_in_range)
-- ==== Pre_prefix_in_range.lean ====
abbrev S16x128 : Shape := ⟨2, ![16, 128]⟩
abbrev S128x18432 : Shape := ⟨2, ![128, 18432]⟩
abbrev S_ : Shape := ⟨0, ![]⟩

class Facts : Prop where
  bcast_S_S16x128 : S_.BroadcastsInDim S16x128 (![] : Fin 0 → Fin S16x128.rank)
  reducesTo_S16x128_S_d0_1 : S16x128.ReducesTo [0, 1] S_
  h_S_ : 0 < S_.numel

variable [Facts]

def fn {F : FTy → Type} [FloatOps F] (main_arg0 : IVec S16x128 32) (main_arg1 : FVec F S128x18432 .f32) : IVec S_ 1 :=
  let main_c : IVec S_ 32 := constantI S_ 32 0#32
  let main_v0 : IVec S16x128 32 := broadcastInDim S16x128 ![] bcast_S_S16x128 main_c
  let main_v1 : IVec S16x128 1 := cmpi .sge main_arg0 main_v0
  let main_c_0 : IVec S_ 32 := constantI S_ 32 128#32
  let main_v2 : IVec S16x128 32 := broadcastInDim S16x128 ![] bcast_S_S16x128 main_c_0
  let main_v3 : IVec S16x128 1 := cmpi .slt main_arg0 main_v2
  let main_v4 : IVec S16x128 1 := andi main_v1 main_v3
  let main_c_1 : IVec S_ 1 := constantI S_ 1 1#1
  let main_v5 : IVec S_ 1 := (fun x v => Host.reduce IntOp.andi x v reducesTo_S16x128_S_d0_1 h_S_) main_v4 main_c_1
  main_v5
-- ==== Kernel.lean ====
abbrev S16x128 : Shape := ⟨2, ![16, 128]⟩
abbrev S128x18432 : Shape := ⟨2, ![128, 18432]⟩
abbrev S2048 : Shape := ⟨1, ![2048]⟩
abbrev S2048x18432 : Shape := ⟨2, ![2048, 18432]⟩
abbrev S1024 : Shape := ⟨1, ![1024]⟩
abbrev S_ : Shape := ⟨0, ![]⟩
abbrev S1 : Shape := ⟨1, ![1]⟩
abbrev S1x18432 : Shape := ⟨2, ![1, 18432]⟩
abbrev S16x128x18432 : Shape := ⟨3, ![16, 128, 18432]⟩

abbrev nBuf : Table → Nat
  | .hbm => 5
  | .local .scScalar .smem => 1
  | _ => 0

abbrev bufTy : (tb : Table) → Fin (nBuf tb) → BufTy
  | .hbm, ⟨0, _⟩ => ⟨S16x128, .i32⟩
  | .hbm, ⟨1, _⟩ => ⟨S128x18432, .f32⟩
  | .hbm, ⟨2, _⟩ => ⟨S2048, .i32⟩
  | .hbm, ⟨3, _⟩ => ⟨S2048x18432, .f32⟩
  | .hbm, ⟨4, _⟩ => ⟨S16x128x18432, .f32⟩
  | .local .scScalar .smem, ⟨0, _⟩ => ⟨S1024, .i32⟩
  | _, _ => ⟨S16x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scs : Ref sig .scScalar := ⟨.hbm, 1, rfl⟩
abbrev main_v0_scs : Ref sig .scScalar := ⟨.hbm, 2, rfl⟩
abbrev main_v1_scs : Ref sig .scScalar := ⟨.hbm, 3, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) : Fin 1 → Nat :=
  let arg0 : BitVec 32 := BitVec.ofNat 32 (i 0).val
  let c1024_i32 : BitVec 32 := 1024#32
  let v0 : BitVec 32 := Scalar.muli arg0 c1024_i32
  ![v0.toNat]
@[reducible] def k0_t1_loop : Scf.Loop 32 :=
  let c0_i32 : BitVec 32 := 0#32
  let c1024_i32_0 : BitVec 32 := 1024#32
  let v3 : BitVec 32 := Scalar.addi c0_i32 c1024_i32_0
  let c1_i32 : BitVec 32 := 1#32
  ⟨c0_i32, v3, c1_i32⟩
def k0_off2 (k0_t1 : Fin k0_t1_loop.trips) : Fin 1 → Nat :=
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v5 : BitVec 32 := Scalar.muli arg7 c1_i32_6
  let v6 : BitVec 32 := Scalar.addi c0_i32_7 v5
  let v7 : Index := Scalar.indexCast v6
  ![v7.toNat]
def k0_off3 (i : grid0.Coords) (k0_t1 : Fin k0_t1_loop.trips) : Fin 2 → Nat :=
  let arg0 : BitVec 32 := BitVec.ofNat 32 (i 0).val
  let c1024_i32 : BitVec 32 := 1024#32
  let v0 : BitVec 32 := Scalar.muli arg0 c1024_i32
  let c0_i32_7 : BitVec 32 := 0#32
  let c0_i32 : BitVec 32 := 0#32
  let c1_i32 : BitVec 32 := 1#32
  let arg7 : BitVec 32 := Scf.iv c0_i32 c1_i32 k0_t1
  let c1_i32_6 : BitVec 32 := 1#32
  let v5 : BitVec 32 := Scalar.muli arg7 c1_i32_6
  let v6 : BitVec 32 := Scalar.addi c0_i32_7 v5
  let v9 : BitVec 32 := Scalar.addi v0 v6
  let c0_i32_8 : BitVec 32 := 0#32
  ![v9.toNat, 0]
def k0_off4 (v8 : BitVec 32) : Fin 2 → Nat :=
  let c0_i32_9 : BitVec 32 := 0#32
  ![v8.toNat, 0]

def k0_chk1 (v8 : BitVec 32) : Prop :=
  (∀ a, (k0_off4 v8) a + S1x18432.size a ≤ S128x18432.size a)
theorem k0_off4_inb : ∀ (v8 : BitVec 32) (k0_hw1 : k0_chk1 v8), ∀ a, (k0_off4 v8) a + S1x18432.size a ≤ S128x18432.size a := fun v8 k0_hw1 => k0_hw1

@[reducible] def k0_t2_loop : Scf.Loop 32 :=
  let c0_i32_2 : BitVec 32 := 0#32
  let c1024_i32_3 : BitVec 32 := 1024#32
  let v4 : BitVec 32 := Scalar.addi c0_i32_2 c1024_i32_3
  let c1_i32_4 : BitVec 32 := 1#32
  ⟨c0_i32_2, v4, c1_i32_4⟩
def k0_off5 (k0_t2 : Fin k0_t2_loop.trips) : Fin 1 → Nat :=
  let c0_i32_7 : BitVec 32 := 0#32
  let c0_i32_2 : BitVec 32 := 0#32
  let c1_i32_4 : BitVec 32 := 1#32
  let arg7 : BitVec 32 := Scf.iv c0_i32_2 c1_i32_4 k0_t2
  let c1_i32_6 : BitVec 32 := 1#32
  let v5 : BitVec 32 := Scalar.muli arg7 c1_i32_6
  let v6 : BitVec 32 := Scalar.addi c0_i32_7 v5
  let v7 : Index := Scalar.indexCast v6
  ![v7.toNat]
def k0_off6 (i : grid0.Coords) (k0_t2 : Fin k0_t2_loop.trips) : Fin 2 → Nat :=
  let arg0 : BitVec 32 := BitVec.ofNat 32 (i 0).val
  let c1024_i32 : BitVec 32 := 1024#32
  let v0 : BitVec 32 := Scalar.muli arg0 c1024_i32
  let c0_i32_7 : BitVec 32 := 0#32
  let c0_i32_2 : BitVec 32 := 0#32
  let c1_i32_4 : BitVec 32 := 1#32
  let arg7 : BitVec 32 := Scf.iv c0_i32_2 c1_i32_4 k0_t2
  let c1_i32_6 : BitVec 32 := 1#32
  let v5 : BitVec 32 := Scalar.muli arg7 c1_i32_6
  let v6 : BitVec 32 := Scalar.addi c0_i32_7 v5
  let v9 : BitVec 32 := Scalar.addi v0 v6
  let c0_i32_8 : BitVec 32 := 0#32
  ![v9.toNat, 0]
def k0_off7 (v8 : BitVec 32) : Fin 2 → Nat :=
  let c0_i32_9 : BitVec 32 := 0#32
  ![v8.toNat, 0]

def k0_chk2 (v8 : BitVec 32) : Prop :=
  (∀ a, (k0_off7 v8) a + S1x18432.size a ≤ S128x18432.size a)
theorem k0_off7_inb : ∀ (v8 : BitVec 32) (k0_hw2 : k0_chk2 v8), ∀ a, (k0_off7 v8) a + S1x18432.size a ≤ S128x18432.size a := fun v8 k0_hw2 => k0_hw2

abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S16x128 : Shape := ⟨2, ![16, 128]⟩
abbrev S128x18432 : Shape := ⟨2, ![128, 18432]⟩
abbrev S_ : Shape := ⟨0, ![]⟩
abbrev S16x128x1 : Shape := ⟨3, ![16, 128, 1]⟩
abbrev S1 : Shape := ⟨1, ![1]⟩
abbrev S1x1x1 : Shape := ⟨3, ![1, 1, 1]⟩
abbrev S16x128x18432 : Shape := ⟨3, ![16, 128, 18432]⟩

abbrev nBuf : Space → Nat
  | .hbm => 25
  | .vmem => 0
  | .smem => 0
  | _ => 0

abbrev bufTy : (tb : Table) → Fin (tcTables nBuf tb) → BufTy
  | .hbm, ⟨0, _⟩ => ⟨S16x128, .i32⟩
  | .hbm, ⟨1, _⟩ => ⟨S128x18432, .f32⟩
  | .hbm, ⟨2, _⟩ => ⟨S_, .i32⟩
  | .hbm, ⟨3, _⟩ => ⟨S16x128, .i32⟩
  | .hbm, ⟨4, _⟩ => ⟨S16x128, .i1⟩
  | .hbm, ⟨5, _⟩ => ⟨S_, .i32⟩
  | .hbm, ⟨6, _⟩ => ⟨S16x128, .i32⟩
  | .hbm, ⟨7, _⟩ => ⟨S16x128, .i32⟩
  | .hbm, ⟨8, _⟩ => ⟨S16x128, .i32⟩
  | .hbm, ⟨9, _⟩ => ⟨S16x128x1, .i32⟩
  | .hbm, ⟨10, _⟩ => ⟨S1, .i32⟩
  | .hbm, ⟨11, _⟩ => ⟨S_, .i32⟩
  | .hbm, ⟨12, _⟩ => ⟨S16x128x1, .i32⟩
  | .hbm, ⟨13, _⟩ => ⟨S16x128x1, .i1⟩
  | .hbm, ⟨14, _⟩ => ⟨S1x1x1, .i32⟩
  | .hbm, ⟨15, _⟩ => ⟨S16x128x1, .i32⟩
  | .hbm, ⟨16, _⟩ => ⟨S16x128x1, .i1⟩
  | .hbm, ⟨17, _⟩ => ⟨S16x128x1, .i1⟩
  | .hbm, ⟨18, _⟩ => ⟨S_, .i1⟩
  | .hbm, ⟨19, _⟩ => ⟨S16x128, .i1⟩
  | .hbm, ⟨20, _⟩ => ⟨S16x128x18432, .f32⟩
  | .hbm, ⟨21, _⟩ => ⟨S16x128x18432, .i1⟩
  | .hbm, ⟨22, _⟩ => ⟨S_, .f32⟩
  | .hbm, ⟨23, _⟩ => ⟨S16x128x18432, .f32⟩
  | .hbm, ⟨24, _⟩ => ⟨S16x128x18432, .f32⟩
  | _, _ => ⟨S16x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Setup.lean ====
/-
  What the proof about the gather kernel names: the program as the SparseCore launch theorem reads it, the ghost state,
  the arrays, the rows of the result, and what the call carries to each SparseCore and back.

  The kernel runs on the scalar subcore of two SparseCores. Subcore `c` copies words `1024 c … 1024 c + 1023` of the flat
  index array into its scalar memory, starts one row copy per word on ONE semaphore, and then waits as many times.
-/
module

public import proofs.«01_k».proof.Defs
public import proofs.«01_k».proof.Proof.Gen.KernelIdeal
public import proofs.«01_k».proof.Proof.Gen.KernelIdeal.Skeleton
public import Idealize.ShloMosaic.Lib.Batch
public import Idealize.ShloMosaic.Lib.SparseCore.Quiescent
public import Idealize.ShloMosaic.Lib.Pipeline.Kit
public import Idealize.ShloMosaic.Lib.StableHlo.Run
public import Idealize.ShloMosaic.Lib.Tactic

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the launch semaphores and of the SparseCores' buffers: decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb (U := UU)

/-! ## The arrays -/

/-- The index array as it is passed in, and the table. -/
abbrev pLoc (d : Dev nD) : Loc nD τ sig := (SparseCore.T d).loc main_arg0
abbrev tLoc (d : Dev nD) : Loc nD τ sig := (SparseCore.T d).loc main_arg1
/-- The flat index array, the kernel's result, and the result reshaped. -/
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2
/-- The scalar memory of SparseCore `c` of device `d`. -/
abbrev wLoc (d : Dev nD) (c : Fin τ.nSC) : Loc nD τ sig := (S d c).loc cc0_scratch0

abbrev tM : Memref sig .scScalar .hbm S128x18432 .f32 := Memref.whole main_arg1_scs
abbrev iM : Memref sig .scScalar .hbm S2048 .i32 := Memref.whole main_v0_scs
abbrev oM : Memref sig .scScalar .hbm S2048x18432 .f32 := Memref.whole main_v1_scs
abbrev wM : Memref sig .scScalar .smem S1024 .i32 := Memref.whole cc0_scratch0

/-- The semaphore of the index copy and the semaphore of the row copies. -/
abbrev aCell (d : Dev nD) (c : Fin τ.nSC) : GSem nD τ sig := (S d c, .dma cc0_scratch1.sem)
abbrev bCell (d : Dev nD) (c : Fin τ.nSC) : GSem nD τ sig := (S d c, .dma cc0_scratch2.sem)

/-! ## The result, row by row -/

/-- The elements of the result's row `r`. -/
def rowSet (r : ℕ) : Finset S2048x18432.Idx := Finset.univ.filter fun i => (i 0).val = r

theorem mem_rowSet {r : ℕ} {i : S2048x18432.Idx} : i ∈ rowSet r ↔ (i 0).val = r := by simp [rowSet]

/-- The table's position at row `w` (a row of the table when the word `w` is below 128) and column `j`. -/
def tIdx (w : BitVec 32) (j : Fin 18432) : S128x18432.Idx := fun
  | 0 => (⟨w.toNat % 128, Nat.mod_lt _ (by decide)⟩ : Fin 128)
  | 1 => j

/-- Position `r` of the flat index array. -/
def iIdx (r : Fin 2048) : S2048.Idx := fun
  | 0 => r

/-- The gathered rows: row `r` is the table's row named by word `r` of the flat index array. -/
def gathered (ix : S2048.Idx → BitVec 32) (tb : S128x18432.Idx → F .f32) : S2048x18432.Idx → F .f32 :=
  fun i => tb (tIdx (ix (iIdx (i 0))) (i 1))

/-- SparseCore `c`'s half of the result, one block per row, at contents `f`. -/
def outRows (d : Dev nD) (c : ℕ) (f : Buf (Elt F) (oLoc d)) : sProp 𝕄 :=
  bigSep Finset.univ fun t : Fin 1024 => oLoc d ↦[rowSet (1024 * c + t.val)]{fullShare} f

instance outRows_storable (d : Dev nD) (c : ℕ) (f : Buf (Elt F) (oLoc d)) : BI.Storable (upEmb : UEmb _ 𝕄) (outRows d c f) := by
  unfold outRows; infer_instance

attribute [irreducible] outRows

/-! ## What the call carries -/

section Carried

variable (ix : (d : Dev nD) → Buf (Elt F) (iLoc d)) (tb : (d : Dev nD) → Buf (Elt F) (tLoc d))

/-- What SparseCore `c` is given: a read share of the table and one of the flat index array, and its half of the result. -/
abbrev given (d : Dev nD) (c : ℕ) (q : PosShare TreeShare) : sProp 𝕄 :=
  iprop((tLoc d ↦{q} tb d) ∗ (iLoc d ↦{q} ix d) ∗ ∃ f, outRows d c f)

/-- What it gives back: its half of the result, gathered. -/
abbrev giving (d : Dev nD) (c : ℕ) : sProp 𝕄 := outRows d c (gathered (ix d) (tb d))

/-- The call's payload. The read shares stay with the subcores: the TensorCore keeps one of its own of the table and
    reads the flat index array no more. -/
def P : (K (F := F)).Pay (nD := nD) (Val := Elt F) (Name := ℕ) (U := UU) where
  st := fun _ d c => given ix tb d c.val (Transfers.shareTokN fullShare c.val)
  dn := fun _ d c => giving ix tb d c.val
  go := fun _ _ _ _ => iprop(emp)
  td := fun _ _ _ _ => iprop(emp)
  x := fun _ _ => iprop(emp)

instance P_storable : (P (F := F) ix tb).IsStorable where
  st _ d c := (inferInstance : BI.Storable (upEmb : UEmb _ 𝕄) (given ix tb d c.val (Transfers.shareTokN fullShare c.val)))
  dn _ d c := (inferInstance : BI.Storable (upEmb : UEmb _ 𝕄) (giving ix tb d c.val))
  go _ _ _ _ := (inferInstance : BI.Storable (upEmb : UEmb _ 𝕄) (iprop(emp) : sProp 𝕄))
  td _ _ _ _ := (inferInstance : BI.Storable (upEmb : UEmb _ 𝕄) (iprop(emp) : sProp 𝕄))

end Carried

end Cert.Proof.Rows

end
-- ==== Proof.Windows.lean ====
/-
  The windows of the row copies: which elements a window of the result holds, what a copy from a window of the table
  leaves in it, and what the scalar memory holds after the index copy.
-/
module

public import proofs.«01_k».proof.Proof.Setup

@[expose] public section

noncomputable section

namespace Cert.Proof.Rows

open Cert.KernelIdeal Cert.KernelIdeal.Gen
open Idealize.ShloMosaic

variable {F : FTy → Type}

/-- Both loops make 1024 trips. -/
theorem trips1 : k0_t1_loop.trips = 1024 := by decide
theorem trips2 : k0_t2_loop.trips = 1024 := by decide

/-- A one-row window of the result at row `r` holds the elements of row `r`. -/
theorem outWin_set {off : Fin 2 → ℕ} {r : ℕ} (he : off = ![r, 0]) (inb : ∀ a, off a + S1x18432.size a ≤ S2048x18432.size a) :
    (oM.slice (Rect.unit (s := S2048x18432) off S1x18432.size inb) (fun _ => rfl)).view.set = rowSet r := by
  subst he
  refine (View.set_slice_whole _ _).trans ?_
  ext i
  rw [Rect.mem_set_unit, mem_rowSet]
  have h1 : (i 1).val < 18432 := (i 1).isLt
  constructor
  · intro h
    have h0 : r ≤ (i 0).val ∧ (i 0).val < r + 1 := h 0
    omega
  · intro h a
    fin_cases a
    · show r ≤ (i 0).val ∧ (i 0).val < r + 1; omega
    · show 0 ≤ (i 1).val ∧ (i 1).val < 0 + 18432; omega

/-- A copy of the table's row `w` into the result's row `r` leaves in row `r` what `gathered` says, when word `r` of the
    flat index array is `w` and `w` names a row of the table. -/
theorem outWin_write {off off' : Fin 2 → ℕ} {r : Fin 2048} {w : BitVec 32} (he : off = ![r.val, 0]) (he' : off' = ![w.toNat, 0])
    (inb : ∀ a, off a + S1x18432.size a ≤ S2048x18432.size a) (inb' : ∀ a, off' a + S1x18432.size a ≤ S128x18432.size a)
    (hw : w.toNat < 128) (ix : S2048.Idx → BitVec 32) (hix : ix (iIdx r) = w) (tb : S128x18432.Idx → F .f32) (fo : S2048x18432.Idx → F .f32)
    (i : S2048x18432.Idx) (hi : i ∈ rowSet r.val) :
    (oM.slice (Rect.unit (s := S2048x18432) off S1x18432.size inb) (fun _ => rfl)).view.write (Elt F) fo
        ((tM.slice (Rect.unit (s := S128x18432) off' S1x18432.size inb') (fun _ => rfl)).view.read (Elt F) tb) Finset.univ i
      = gathered ix tb i := by
  have hi' := hi
  rw [← outWin_set he inb] at hi'
  obtain ⟨x, -, rfl⟩ := Finset.mem_map.mp hi'
  refine (View.write_emb_of_mem _ _ (Finset.mem_univ x)).trans ?_
  subst he he'
  rw [mem_rowSet] at hi
  show tb _ = tb _
  congr 1
  funext a
  apply Fin.ext
  have hx : (x 0).val = 0 := by have := (x 0).isLt; exact Nat.lt_one_iff.mp this
  have hr : ((Rect.unit (s := S2048x18432) ![r.val, 0] S1x18432.size inb).emb x) 0 = r := Fin.ext hi
  fin_cases a
  · show w.toNat + 1 * (x 0).val = (ix (iIdx (((Rect.unit (s := S2048x18432) ![r.val, 0] S1x18432.size inb).emb x) 0))).toNat % 128
    rw [hr, hix, hx, Nat.mod_eq_of_lt hw]; omega
  · rfl

/-- What scalar memory holds after the index copy: word `t` of it is word `1024 c + t` of the flat index array. -/
def words (ix : S2048.Idx → BitVec 32) (c : ℕ) : S1024.Idx → BitVec 32 :=
  fun x => ix (iIdx ⟨(1024 * c + (x 0).val) % 2048, Nat.mod_lt _ (by decide)⟩)

theorem idxWin_write {off : Fin 1 → ℕ} {c : ℕ} (hc : c < 2) (he : off = ![1024 * c]) (inb : ∀ a, off a + S1024.size a ≤ S2048.size a)
    (ix : S2048.Idx → BitVec 32) (fw : S1024.Idx → BitVec 32) :
    wM.view.write (Elt F) fw ((iM.slice (Rect.unit (s := S2048) off S1024.size inb) (fun _ => rfl)).view.read (Elt F) ix) Finset.univ
      = words ix c := by
  refine (View.write_whole_univ _ _ _).trans ?_
  subst he
  funext x
  show ix _ = ix _
  congr 1
  funext a
  apply Fin.ext
  have h0 : (x 0).val < 1024 := (x 0).isLt
  fin_cases a
  show 1024 * c + 1 * (x 0).val = (1024 * c + (x 0).val) % 2048
  rw [Nat.mod_eq_of_lt (by omega)]; omega

/-- Reading word `k` of scalar memory. -/
theorem word_read {off : Fin 1 → ℕ} {k : ℕ} (hk : k < 1024) (he : off = ![k]) (inb : ∀ a, off a + S1.size a ≤ S1024.size a)
    (ix : S2048.Idx → BitVec 32) {c : ℕ} (hc : c < 2) (x : (Rect.unit (s := S1024) off S1.size inb).shape.Idx) :
    (wM.access (Rect.unit (s := S1024) off S1.size inb)).read (Elt F) (words ix c) x = ix (iIdx ⟨1024 * c + k, by omega⟩) := by
  subst he
  show words ix c _ = _
  unfold words
  congr 2
  apply Fin.ext
  have hx : (x 0).val = 0 := by have := (x 0).isLt; exact Nat.lt_one_iff.mp this
  show (1024 * c + (k + 1 * (x 0).val)) % 2048 = 1024 * c + k
  rw [hx, Nat.mod_eq_of_lt (by omega)]; omega

/-- A word below 128 names a row of the table: what the kernel's two checks ask. -/
theorem chk_of_lt {w : BitVec 32} (hw : w.toNat < 128) : k0_chk1 w := by
  show ∀ a, k0_off4 w a + S1x18432.size a ≤ S128x18432.size a
  intro a
  fin_cases a
  · show w.toNat + 1 ≤ 128; omega
  · show 0 + 18432 ≤ 18432; omega

theorem chk_of_lt' {w : BitVec 32} (hw : w.toNat < 128) : k0_chk2 w := by
  show ∀ a, k0_off7 w a + S1x18432.size a ≤ S128x18432.size a
  intro a
  fin_cases a
  · show w.toNat + 1 ≤ 128; omega
  · show 0 + 18432 ≤ 18432; omega

end Cert.Proof.Rows

end
-- ==== Proof.Body.lean ====
/-
  The kernel's body on one scalar subcore: the index copy and its wait, the loop that starts the 1024 row copies on one
  semaphore, the loop that waits for them, and the 1024 rows back, gathered.

  The row copies are ONE batch on the subcore's second semaphore: copy `t` delivers row `1024 c + t` of the result. The
  first loop's invariant counts the copies started, the second's the units waited for; the deliveries are collected
  after the second loop, when every unit has been.
-/
module

public import proofs.«01_k».proof.Proof.Windows
public import Idealize.ShloMosaic.Lib.SparseCore.FromWhole

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)

variable {F : FTy → Type} [FloatOps F]

local notation "𝕄" => MT nD τ sig (HIx 1) (Elt F) ℕ UU ℕ

/-- The units one row copy raises its semaphore by, and the units of the index copy. -/
abbrev rowUnits : ℕ := (main_v1_scs : Ref sig .scScalar).dmaCredit S1x18432 .f32
abbrev idxUnits : ℕ := (wM : Memref sig .scScalar .smem S1024 .i32).view.dmaCredit

theorem idxUnits_pos : 0 < idxUnits := View.dmaCredit_pos _ (by decide)
theorem rowUnits_pos : 0 < rowUnits :=
  View.dmaCredit_pos (oM.slice (Rect.unit (s := S2048x18432) ![0, 0] S1x18432.size (by decide)) (fun _ => rfl)).view (by decide)

section Subcore

variable (ix : (d : Dev nD) → Buf (Elt F) (iLoc d)) (tb : (d : Dev nD) → Buf (Elt F) (tLoc d))
variable (d : Dev nD) (L : grid0.Coords)

/-- The SparseCore of coordinates `L`. -/
abbrev cS : Fin τ.nSC := (L 0).castLE hcore0

theorem L_lt : (L 0).val < 2 := (L 0).isLt

omit [FloatOps F] in
/-- The two semaphores are among the subcore's own. -/
theorem ownSems0_S :
    (ownSems0 (S d (cS L)) : sProp 𝕄)
      = iprop(semVal (aCell d (cS L)) 0 ∗ semVal (bCell d (cS L)) 0
          ∗ bigSep (((ownCells (S d (cS L))).erase (aCell d (cS L))).erase (bCell d (cS L))) fun g => semVal g 0) := by
  unfold SparseCore.Cfg.ownSems0
  rw [SparseCore.bigSep_erase' ((mem_ownCells (g := aCell d (cS L))).mpr ⟨rfl, by
      show (SemLoc.dma cc0_scratch1.sem : SemLoc sig).isScoped .scScalar = true; decide⟩),
    SparseCore.bigSep_erase' (Finset.mem_erase.mpr ⟨by
      intro e; exact absurd (Prod.mk.inj e).2 (show (SemLoc.dma cc0_scratch2.sem : SemLoc sig) ≠ .dma cc0_scratch1.sem by decide),
      (mem_ownCells (g := bCell d (cS L))).mpr ⟨rfl, by
      show (SemLoc.dma cc0_scratch2.sem : SemLoc sig).isScoped .scScalar = true; decide⟩⟩)]

omit [FloatOps F] in
/-- The scalar memory is among the subcore's own buffers. -/
theorem ownBufs_S :
    (ownBufs (S d (cS L)) : sProp 𝕄)
      = iprop((∃ f, wLoc d (cS L) ↦{fullShare} f)
          ∗ bigSep ((ownRefs (τ := τ) (.scScalar (cS L))).erase ((Proc.scScalar (cS L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scScalar (cS L))
    (b := (Proc.scScalar (cS L)).devRef cc0_scratch0) rfl)

/-- What row copy `t` delivers: its row of the result, gathered. -/
abbrev rowBack (t : Fin 1024) : sProp 𝕄 :=
  oLoc d ↦[rowSet (1024 * (L 0).val + t.val)]{fullShare} (gathered (ix d) (tb d) : Buf (Elt F) (oLoc d))

/-- The batch of row copies: `j` started, `u` units waited for. -/
abbrev rowBatch (j u : ℕ) : sProp 𝕄 :=
  Batch (EC (F := F)) (S d (cS L)) (.dma cc0_scratch2.sem) none rowUnits (rowBack ix tb d L) j u

/-- Scalar memory holding this subcore's words. -/
abbrev wordsPts : sProp 𝕄 := wLoc d (cS L) ↦{fullShare} (words (ix d) (L 0).val : Buf (Elt F) (wLoc d (cS L)))

/-- Before trip `k` of the starting loop: a read share of the table, the words, `k` copies started, and the rows from `k` on
    as they were. -/
def startInv (fo : Buf (Elt F) (oLoc d)) (k : ℕ) (_ : Unit) : sProp 𝕄 :=
  iprop((∃ q, tLoc d ↦{q} tb d) ∗ wordsPts ix d L ∗ rowBatch ix tb d L k 0
    ∗ bigSep (pending (n := 1024) k) fun t => oLoc d ↦[rowSet (1024 * (L 0).val + t.val)]{fullShare} fo)

/-- Before trip `k` of the waiting loop: the words, every copy started, and `k` copies' units waited for. -/
def waitInv (O : CellTallies nD τ sig (HIx 1)) (W : Waits sig (HIx 1)) (k : ℕ) (_ : Unit) : sProp 𝕄 :=
  iprop(wordsPts ix d L ∗ rowBatch ix tb d L 1024 (k * rowUnits)
    ∗ ∃ W', ⌜∀ p ∈ W', p ∈ W ∨ p.2 = none⌝ ∗ owes (S d (cS L)) O W')

variable (hlt : ∀ r : Fin 2048, (ix d (iIdx r)).toNat < 128)

include hlt in
/-- One trip of the starting loop: the word read, checked, and its row copy started. -/
theorem start_step (fo : Buf (Elt F) (oLoc d)) (k : Fin k0_t1_loop.trips) (acc : Unit) :
    startInv ix tb d L fo k acc
      ⊢ wp frame (wpE (defs₀ (F := F)) 𝒱₀ (S d (cS L)) none) Set.univ
          (k0_t1_body L tM (Memref.isWhole_whole _) iM (Memref.isWhole_whole _) oM (Memref.isWhole_whole _) wM (Memref.isWhole_whole _)
            cc0_scratch1 cc0_scratch2 k acc)
          (startInv ix tb d L fo (k.val + 1)) := by
  have hk : k.val < 1024 := trips1 ▸ k.isLt
  have hL : (L 0).val < 2 := L_lt L
  have hr : 1024 * (L 0).val + k.val < 2048 := by omega
  unfold startInv k0_t1_body
  simp only [smemLoad, smemLoadElt, Prog.lift, Prog.bind_op, Prog.bind_ret, Prog.pure_eq_ret]
  rw [Transfers.bigSep_pending_step _ k.val hk]
  iintro ⟨⟨%q, Ht⟩, Hw, HB, Ho, Hos⟩
  iapply (wp_load_rect 𝒱₀ (S d (cS L)) none Set.univ (m := wM) (r := Rect.unit (s := S1024) (k0_off2 k) S1.size (k0_off2_inb k))
    (S := Finset.univ) (q := fullShare)
    (f := (words (ix d) (L 0).val : Buf (Elt F) (wLoc d (cS L)))) (Finset.subset_univ _)) $$ Hw
  iintro Hw
  rw [word_read hk (k0_off2_eq k) (k0_off2_inb k) (ix d) hL]
  have hw := hlt ⟨1024 * (L 0).val + k.val, hr⟩
  iapply (wp_assume 𝒱₀ (S d (cS L)) none Set.univ (chk_of_lt hw))
  ihave ⟨Ht, Ht'⟩ := ((pointsTo_share (PosShare.mem_left_op_right q)).1) $$ Ht
  ihave ⟨Hs, -⟩ := ((pointsTo_split_subset (Finset.subset_univ
    (tM.slice (Rect.unit (s := S128x18432) (k0_off4 (ix d (iIdx ⟨1024 * (L 0).val + k.val, hr⟩))) S1x18432.size
      (k0_off4_inb _ (chk_of_lt hw))) (fun _ => rfl)).view.set)).1) $$ Ht'
  iapply (Transfers.wp_dmaBatch (EC (F := F)) 𝒱₀ (S d (cS L)) none none rowUnits rfl
    (src := tM.slice (Rect.unit (s := S128x18432) (k0_off4 (ix d (iIdx ⟨1024 * (L 0).val + k.val, hr⟩))) S1x18432.size
      (k0_off4_inb _ (chk_of_lt hw))) (fun _ => rfl))
    (dst := oM.slice (Rect.unit (s := S2048x18432) (k0_off3 L k) S1x18432.size (k0_off3_inb L k)) (fun _ => rfl))
    (D := rowBack ix tb d L) (j := k.val)
    (Sd := rowSet (1024 * (L 0).val + k.val)) (fs := tb d) (fd := fo) (u := 0)
    (Eq.subset (outWin_set (k0_off3_eq L k) (k0_off3_inb L k))) hk (Nat.zero_le _) ?hD) $$ [Hs Ho HB]
  case hD =>
    refine sep_elim_left.trans (Entails.of_eq (pointsTo_congr fun i hi => ?_))
    exact outWin_write (r := ⟨1024 * (L 0).val + k.val, hr⟩) (k0_off3_eq L k) rfl _ _ hw (ix d) rfl (tb d) fo i hi
  · isplitl [Hs]; · iexact Hs
    isplitl [Ho]; · iexact Ho
    iexact HB
  iintro HB
  rw [wp_ret]; imodintro
  isplitl [Ht]; · iexists _; iexact Ht
  isplitl [Hw]; · iexact Hw
  isplitl [HB]; · iexact HB
  iexact Hos

include hlt in
/-- One trip of the waiting loop: the word read, checked, and one copy's units waited for. -/
theorem wait_step (O : CellTallies nD τ sig (HIx 1)) (W : Waits sig (HIx 1)) (hO : ∀ g, O g none = 0) (k : Fin k0_t2_loop.trips) (acc : Unit) :
    iprop(levAts (K (F := F)).L (K (F := F)).lev ∗ waitInv ix tb d L O W k acc)
      ⊢ wp frame (wpE (defs₀ (F := F)) 𝒱₀ (S d (cS L)) none) Set.univ
          (k0_t2_body L tM (Memref.isWhole_whole _) iM (Memref.isWhole_whole _) oM (Memref.isWhole_whole _) wM (Memref.isWhole_whole _)
            cc0_scratch1 cc0_scratch2 k acc)
          (fun acc => iprop(levAts (K (F := F)).L (K (F := F)).lev ∗ waitInv ix tb d L O W (k.val + 1) acc)) := by
  have hk : k.val < 1024 := trips2 ▸ k.isLt
  have hL : (L 0).val < 2 := L_lt L
  have hr : 1024 * (L 0).val + k.val < 2048 := by omega
  unfold waitInv k0_t2_body
  simp only [smemLoad, smemLoadElt, Prog.lift, Prog.bind_op, Prog.bind_ret, Prog.pure_eq_ret]
  iintro ⟨#Hlv, Hw, HB, %W', %hW', HO⟩
  iapply (wp_load_rect 𝒱₀ (S d (cS L)) none Set.univ (m := wM) (r := Rect.unit (s := S1024) (k0_off5 k) S1.size (k0_off5_inb k))
    (S := Finset.univ) (q := fullShare)
    (f := (words (ix d) (L 0).val : Buf (Elt F) (wLoc d (cS L)))) (Finset.subset_univ _)) $$ Hw
  iintro Hw
  rw [word_read hk (k0_off5_eq k) (k0_off5_inb k) (ix d) hL]
  have hw := hlt ⟨1024 * (L 0).val + k.val, hr⟩
  iapply (wp_assume 𝒱₀ (S d (cS L)) none Set.univ (chk_of_lt' hw))
  iapply (Transfers.wp_waitBatchMulO (EC (F := F)) 𝒱₀ (S d (cS L)) none none 1 (N := rowUnits) (Nat.one_mul _).symm
    (D := rowBack ix tb d L) (j := 1024) (u := k.val * rowUnits) (by
      rw [← Nat.add_mul, Nat.mul_comm rowUnits]; exact Nat.mul_le_mul_right _ (by omega)) (O := O) (W := W')) $$ [HB HO]
  · isplitl [HB]; · iexact HB
    isplitl [HO]; · iexact HO
    iapply ((K (F := F)).mayWait_none (SemLoc.dma cc0_scratch2.sem) hO); iexact Hlv
  iintro ⟨HB, HO⟩
  rw [wp_ret]; imodintro
  isplitr; · iexact Hlv
  isplitl [Hw]; · iexact Hw
  isplitl [HB]; · rw [Nat.add_mul]; iexact HB
  iexists _; isplitr [HO]
  swap; · iexact HO
  ipureintro; intro p hp
  rcases Finset.mem_insert.mp hp with rfl | hp
  · exact .inr rfl
  · exact hW' p hp

include hlt in
/-- The whole body: from the read shares of the table and of the flat index array and this subcore's 1024 rows, it returns
    the rows gathered, its scalar memory and semaphores as they were handed over. -/
theorem body (q : PosShare TreeShare) (O : CellTallies nD τ sig (HIx 1)) (W : Waits sig (HIx 1)) (hO : ∀ g, O g none = 0) :
    iprop(levAts (K (F := F)).L (K (F := F)).lev ∗ emp ∗ given ix tb d (cS L).val q
        ∗ scopedBufs (S d (cS L)) ∗ scopedSems0 (S d (cS L)) ∗ owes (S d (cS L)) O W)
      ⊢ wp frame (wpE (defs₀ (F := F)) 𝒱₀ (S d (cS L)) none) Set.univ
          (cc0__sc_gather L tM (Memref.isWhole_whole _) iM (Memref.isWhole_whole _) oM (Memref.isWhole_whole _) wM (Memref.isWhole_whole _)
            cc0_scratch1 cc0_scratch2)
          fun _ => iprop(giving ix tb d (cS L).val
            ∗ scopedBufs (S d (cS L)) ∗ scopedSems0 (S d (cS L))
            ∗ ∃ W', ⌜∀ p ∈ W', p ∈ W ∨ p.2 = none⌝ ∗ owes (S d (cS L)) O W') := by
  have hL : (L 0).val < 2 := L_lt L
  simp only [cc0__sc_gather_eq_skeleton]; unfold cc0__sc_gather_skel
  simp only [Prog.lift, Prog.bind_op, Prog.bind_ret, Prog.pure_eq_ret]
  iintro ⟨#Hlv, -, ⟨Ht, Hi, %fo, Ho⟩, Hbufs, Hsems, HO⟩
  ihave Hsems := (SparseCore.Cfg.scopedSems0_S_elim (Val := Elt F) d (cS L)) $$ Hsems
  icases Hsems with ⟨Hs, HsV⟩
  ihave Hs := (Entails.of_eq (ownSems0_S (F := F) d L)) $$ Hs
  icases Hs with ⟨Ha, Hb, HsR⟩
  ihave Hbufs := ((K (F := F)).scopedBufs_S_elim facts d (cS L)) $$ Hbufs
  icases Hbufs with ⟨Hf, HfV⟩
  ihave Hf := (Entails.of_eq (ownBufs_S (F := F) d L)) $$ Hf
  icases Hf with ⟨⟨%fw, Hw⟩, HfR⟩
  -- the index copy and its wait
  iapply (Transfers.wp_dmaFromWhole (EC (F := F)) 𝒱₀ (S d (cS L)) none none idxUnits rfl idxUnits_pos
    (src := iM.slice (Rect.unit (s := S2048) (k0_off1 L) S1024.size (k0_off1_inb L)) (fun _ => rfl)) (dst := wM)
    (fs := ix d) (fd := fw) (q := q) (Finset.subset_univ _)) $$ [Hi Hw Ha]
  · isplitl [Hi]; · iexact Hi
    isplitl [Hw]; · iexact Hw
    iexact Ha
  iintro HF
  iapply (Transfers.wp_waitLocalO (EC (F := F)) 𝒱₀ (S d (cS L)) none none (rfl : wM.view.dmaCredit = idxUnits) (O := O) (W := W)) $$ [HF HO]
  · isplitl [HF]; · iexact HF
    isplitl [HO]; · iexact HO
    iapply ((K (F := F)).mayWait_none (SemLoc.dma cc0_scratch1.sem) hO); iexact Hlv
  iintro ⟨⟨Hw, -⟩, Ha, HO⟩
  -- the batch of row copies, and the loop that starts them
  imod (Transfers.batch_alloc' (EC (F := F)) (S d (cS L)) none rowUnits (rowBack ix tb d L) (E := Set.univ)) $$ Hb with HB
  iapply (Scf.wp_for_bind frame (wpE (defs₀ (F := F)) 𝒱₀ (S d (cS L)) none) Set.univ k0_t1_loop.lb k0_t1_loop.ub k0_t1_loop.st k0_t1_ok ⟨⟩ _
    (startInv ix tb d L fo) (start_step ix tb d L hlt fo)) $$ [Ht Hw HB Ho]
  · unfold startInv
    isplitl [Ht]; · iexists q; iexact Ht
    isplitl [Hw]
    · rw [show (_ : Buf (Elt F) (wLoc d (cS L))) = words (ix d) (L 0).val from idxWin_write hL (k0_off1_eq L) (k0_off1_inb L) (ix d) fw]; iexact Hw
    isplitl [HB]; · iexact HB
    rw [← Transfers.bigSep_pending_zero]
    unfold outRows
    iexact Ho
  iintro %acc HI
  unfold startInv
  icases HI with ⟨-, Hw, HB, -⟩
  -- the loop that waits for them
  iapply (Scf.wp_for_bind frame (wpE (defs₀ (F := F)) 𝒱₀ (S d (cS L)) none) Set.univ k0_t2_loop.lb k0_t2_loop.ub k0_t2_loop.st k0_t2_ok ⟨⟩ _
    (fun k acc => iprop(levAts (K (F := F)).L (K (F := F)).lev ∗ waitInv ix tb d L O W k acc)) (wait_step ix tb d L hlt O W hO)) $$ [Hw HB HO]
  · unfold waitInv
    isplitr; · iexact Hlv
    isplitl [Hw]; · iexact Hw
    isplitl [HB]; · rw [Nat.zero_mul]; iexact HB
    iexists _; isplitr [HO]
    swap; · iexact HO
    ipureintro; intro p hp
    rcases Finset.mem_insert.mp hp with rfl | hp
    · exact .inr rfl
    · exact .inl hp
  iintro %acc' HI
  unfold waitInv
  icases HI with ⟨-, Hw, HB, HO⟩
  -- every unit waited for: the rows are back
  rw [show Scf.trips k0_t2_loop.lb k0_t2_loop.ub k0_t2_loop.st * rowUnits = rowUnits * 1024 by
    rw [show Scf.trips k0_t2_loop.lb k0_t2_loop.ub k0_t2_loop.st = 1024 from trips2, Nat.mul_comm]]
  imod (Transfers.batch_collect' (EC (F := F)) (S d (cS L)) rowUnits_pos) $$ HB with ⟨HD, Hb⟩
  rw [wp_ret]; imodintro
  isplitl [HD]; · unfold giving outRows; iexact HD
  isplitl [Hw HfR HfV]
  · iapply ((K (F := F)).scopedBufs_S_intro facts d (cS L))
    rw [ownBufs_S]
    isplitl [Hw HfR]
    · isplitl [Hw]; · iexists _; iexact Hw
      iexact HfR
    iexact HfV
  isplitl [Ha Hb HsR HsV]
  · iapply (SparseCore.Cfg.scopedSems0_S_intro (Val := Elt F) d (cS L))
    rw [ownSems0_S]
    isplitl [Ha Hb HsR]
    · isplitl [Ha]; · iexact Ha
      isplitl [Hb] <;> iassumption
    iexact HsV
  iexact HO

end Subcore

end Cert.Proof.Rows

end
-- ==== Proof.Launch.lean ====
/-
  The program's run: the subcores' obligation from `body`, the two reshapes of `main` around the call, and what the final
  memory holds — the index array and the table as they were, and the result at the gathered rows.
-/
module

public import proofs.«01_k».proof.Proof.Body

@[expose] public section

set_option maxRecDepth 16384

noncomputable section

namespace Cert.Proof.Rows

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

/-! ## The subcores -/

/-- The coordinates of SparseCore `c`. -/
def coords (c : Fin (grid0.bound 0)) : grid0.Coords := fun
  | 0 => c
  | ⟨_ + 1, h⟩ => absurd h (Nat.not_lt.2 (Nat.le_add_left _ _))

theorem defs₀_scalar (c : Fin τ.nSC) :
    defs₀ (F := F) (.scScalar c) 0 ()
      = SparseCore.onCore hcore0 (fun c => cc0__sc_gather (coords c) tM (Memref.isWhole_whole _) iM (Memref.isWhole_whole _)
          oM (Memref.isWhole_whole _) wM (Memref.isWhole_whole _) cc0_scratch1 cc0_scratch2) ⟨⟩ c := rfl

omit [FloatOps F] in
/-- A wait recorded at no call's index is one the launch allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'
  isplitr [HO]
  swap; · iexact HO
  ipureintro; exact fun p hp => (h p hp).imp_right .inl

section Subcores

variable (ix : (d : Dev nD) → Buf (Elt F) (iLoc d)) (tb : (d : Dev nD) → Buf (Elt F) (tLoc d))

theorem scalarObl (hlt : ∀ d (r : Fin 2048), (ix d (iIdx r)).toNat < 128) : (K (F := F)).ScalarObl (D (F := F)) 𝒱 (P ix tb) v₀ 0 := by
  intro d c O W hO _ _
  simp only [show (P ix tb).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact (body ix tb d (coords ⟨_, hc⟩) (hlt d) _ O W hO).trans (wp_mono frame _ _ fun _ => waits_weaken)

/-- The launch element: the handshakes' rounds, and the transfers' counters at their unit. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P ix tb).x q thr) := by
  have hx : (bigSep Finset.univ fun thr : Thread nD τ => bigSep Finset.univ fun q : Fin 1 => (P (F := F) ix tb).x q thr)
      = (iprop(emp) : sProp 𝕄) :=
    (bigSep_congr fun _ _ => bigSep_univ_of_subsingleton (0 : Fin 1)).trans (bigSep_emp_const _)
  have he : (bigSep Finset.univ fun _ : Dev nD => iprop(emp)) = (iprop(emp) : sProp 𝕄) := bigSep_emp_const _
  rw [hx, he]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

end Subcores

/-! ## The result's rows, dealt to the two SparseCores -/

/-- Every row is row `y` of SparseCore `x`. -/
theorem two_halves (r : ℕ) (h : r < 2048) : ∃ (x : Fin 2) (y : Fin 1024), r = 1024 * x.val + y.val :=
  ⟨⟨r / 1024, by omega⟩, ⟨r % 1024, by omega⟩, (Nat.div_add_mod _ _).symm⟩

omit [FloatOps F] in
/-- The result whole is its 2048 rows, 1024 for each SparseCore. -/
theorem rows_split (d : Dev nD) (f : Buf (Elt F) (oLoc d)) :
    (oLoc d ↦{fullShare} f : sProp 𝕄) = iprop(outRows d 0 f ∗ outRows d 1 f) := by
  have hd : ∀ x ∈ (Finset.univ : Finset (Fin 2 × Fin 1024)), ∀ y ∈ (Finset.univ : Finset (Fin 2 × Fin 1024)), x ≠ y →
      Disjoint (rowSet (1024 * x.1.val + x.2.val)) (rowSet (1024 * y.1.val + y.2.val)) := by
    intro x _ y _ hxy
    refine Finset.disjoint_left.mpr fun i hi hj => hxy ?_
    rw [mem_rowSet] at hi hj
    have h1 := x.1.isLt; have h2 := x.2.isLt; have h3 := y.1.isLt; have h4 := y.2.isLt
    exact Prod.ext (Fin.ext (by omega)) (Fin.ext (by omega))
  have hu : (Finset.univ : Finset (Fin 2 × Fin 1024)).biUnion (fun x => rowSet (1024 * x.1.val + x.2.val)) = Finset.univ := by
    ext i
    simp only [Finset.mem_biUnion, Finset.mem_univ, true_and, iff_true]
    obtain ⟨x, y, h⟩ := two_halves (i 0).val (i 0).isLt
    exact ⟨(x, y), mem_rowSet.mpr h⟩
  have h := pointsTo_biUnion (ℓ := oLoc d) (q := fullShare) (f := f) (Ix := HIx 1) (Name := ℕ) (U := UU) (Lvl := ℕ) Finset.univ
    (fun x : Fin 2 × Fin 1024 => rowSet (1024 * x.1.val + x.2.val)) hd
  rw [hu] at h
  refine h.trans ?_
  rw [BI.bigSep_univ_prod, BI.bigSep_fin_two]
  unfold outRows
  rfl

/-! ## `main` -/

variable (m : (ℓ : Loc nD τ sig) → Buf (Elt F) ℓ) (ρ : Dev nD → PrngReg)

abbrev p' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The reshape of the index array to one axis, and of the result's rows to the two axes. -/
abbrev opFlat : HloOp τ sig (Elt F) := StableHlo.reshape main_arg0 main_v0 rfl shapeCasts_S16x128_S2048
abbrev opBack : HloOp τ sig (Elt F) := StableHlo.reshape main_v1 main_v2 rfl shapeCasts_S2048x18432_S16x128x18432

abbrev arrays : Finset (DevRef τ sig) := {p', t', i', o', r'}

/-- The flat index array, the table, the gathered rows, and the result. -/
abbrev flat (d : Dev nD) : Buf (Elt F) (iLoc d) := shapeCast S2048 (m (pLoc d)) shapeCasts_S16x128_S2048
abbrev table (d : Dev nD) : Buf (Elt F) (tLoc d) := m (tLoc d)
abbrev rows (d : Dev nD) : Buf (Elt F) (oLoc d) := gathered (flat m d) (table m d)
abbrev result (d : Dev nD) : Buf (Elt F) (rLoc d) := shapeCast S16x128x18432 (rows m d) shapeCasts_S2048x18432_S16x128x18432

omit [FloatOps F] in
theorem held_arrays (d : Dev nD) (W : Valuation τ sig (Elt F)) :
    (held (T d) arrays W : sProp 𝕄)
      = iprop((pLoc d ↦{fullShare} W p') ∗ (tLoc d ↦{fullShare} W t') ∗ (iLoc d ↦{fullShare} W i') ∗ (oLoc d ↦{fullShare} W o')
          ∗ rLoc d ↦{fullShare} W r') := by
  unfold held arrays
  rw [SparseCore.bigSep_insert' (by decide), SparseCore.bigSep_insert' (by decide), SparseCore.bigSep_insert' (by decide),
    SparseCore.bigSep_insert' (by decide), bigSep_singleton]

omit [FloatOps F] in
theorem unscoped_arrays (d : Dev nD) (W : (b : Ref sig .tc) → Buf (Elt F) ((d.tc : Thread nD τ).loc b)) :
    (unscopedBufs d W : sProp 𝕄)
      = iprop((pLoc d ↦{fullShare} W main_arg0) ∗ (tLoc d ↦{fullShare} W main_arg1) ∗ (iLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The arrays at the start, and after the call. -/
def V0 (d : Dev nD) : Valuation τ sig (Elt F) := fun b => m (d, b)
def V1 (d : Dev nD) : Valuation τ sig (Elt F) := Function.update (V0 m d) o' (rows m d)

theorem unscoped_held (d : Dev nD) : (unscopedBufs d (fun b => m ((SparseCore.T d).loc b)) : sProp 𝕄) = held (T d) arrays (V0 m d) := by
  rw [unscoped_arrays, held_arrays]; rfl

theorem result_flat (d : Dev nD) : (opFlat (F := F)).result (V0 m d) i' = flat m d := StableHlo.reshape_result _ _ _ _ _ _ _

/-- Only the flat index array changed at the first reshape. -/
theorem held_flat (d : Dev nD) :
    (held (T d) arrays ((opFlat (F := F)).result (V0 m d)) : sProp 𝕄)
      = iprop((pLoc d ↦{fullShare} m (pLoc d)) ∗ (tLoc d ↦{fullShare} table m d) ∗ (iLoc d ↦{fullShare} flat m d)
          ∗ (oLoc d ↦{fullShare} m (oLoc d)) ∗ rLoc d ↦{fullShare} m (rLoc d)) := by
  rw [held_arrays, (opFlat (F := F)).result_of_not_mem _ (b := p') (show p' ∉ ({i'} : Finset (DevRef τ sig)) by decide),
    (opFlat (F := F)).result_of_not_mem _ (b := t') (show t' ∉ ({i'} : Finset (DevRef τ sig)) by decide),
    (opFlat (F := F)).result_of_not_mem _ (b := o') (show o' ∉ ({i'} : Finset (DevRef τ sig)) by decide),
    (opFlat (F := F)).result_of_not_mem _ (b := r') (show r' ∉ ({i'} : Finset (DevRef τ sig)) by decide),
    result_flat]
  rfl

theorem result_back (d : Dev nD) (W : Valuation τ sig (Elt F)) (hW : W o' = rows m d) : (opBack (F := F)).result W r' = result m d :=
  (StableHlo.reshape_result _ _ _ _ _ _ _).trans (by rw [hW]; rfl)

theorem hFlat : (opFlat (F := F)).bufs ⊆ arrays := show ({p', i'} : Finset (DevRef τ sig)) ⊆ arrays by decide
theorem hBack : (opBack (F := F)).bufs ⊆ ({o', r'} : Finset (DevRef τ sig)) := show ({o', r'} : Finset (DevRef τ sig)) ⊆ {o', r'} by decide

/-- What `main` leaves to be read: the index array, a share of the table, and the result. -/
abbrev FIN (d : Dev nD) : sProp 𝕄 :=
  iprop((pLoc d ↦{fullShare} m (pLoc d)) ∗ (tLoc d ↦{Transfers.shareDrop fullShare 2} table m d) ∗ rLoc d ↦{fullShare} result m d)

theorem st_eq (d : Dev nD) : (bigSep Finset.univ fun c : Fin ((K (F := F)).nCore 0) => (P (flat m) (table m)).st 0 d c)
    = iprop(given (flat m) (table m) d 0 (Transfers.shareTokN fullShare 0) ∗ given (flat m) (table m) d 1 (Transfers.shareTokN fullShare 1)) :=
  BI.bigSep_fin_two _
theorem dn_eq (d : Dev nD) : (bigSep Finset.univ fun c : Fin ((K (F := F)).nCore 0) => (P (flat m) (table m)).dn 0 d c)
    = iprop(giving (flat m) (table m) d 0 ∗ giving (flat m) (table m) d 1) :=
  BI.bigSep_fin_two _

omit [FloatOps F] in
theorem toks_two (ℓ : Loc nD τ sig) (f : Buf (Elt F) ℓ) :
    (ℓ ↦{fullShare} f : sProp 𝕄) ⊢ iprop((ℓ ↦{Transfers.shareDrop fullShare 2} f) ∗ (ℓ ↦{Transfers.shareTokN fullShare 0} f)
      ∗ ℓ ↦{Transfers.shareTokN fullShare 1} f) := by
  have h := Transfers.pointsTo_toks_split (ℓ := ℓ) (S := Finset.univ) (f := f) (Ix := HIx 1) (Name := ℕ) (U := UU) (Lvl := ℕ) fullShare 2
  rw [BI.bigSep_fin_two] at h
  exact h

theorem hmain (κ : GSem nD τ sig → ℕ) (d : Dev nD) :
    iprop((K (F := F)).ctx EH (P (flat m) (table m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := arrays) hFlat (V := V0 m d)) $$ [Hb Hheld]
  · isplitl [Hb] <;> iassumption
  iintro ⟨Hb, Hheld⟩
  rw [wp_ret]; imodintro
  ihave Hh := (Entails.of_eq (held_flat (F := F) m d)) $$ Hheld
  icases Hh with ⟨Hp, Ht, Hi, Ho, Hr⟩
  -- the call
  ihave ⟨Ht, Ht0, Ht1⟩ := (toks_two (tLoc d) (table m d)) $$ Ht
  ihave ⟨-, Hi0, Hi1⟩ := (toks_two (iLoc d) (flat m d)) $$ Hi
  ihave ⟨Ho0, Ho1⟩ := (Entails.of_eq (rows_split d (m (oLoc d)))) $$ Ho
  iapply ((K (F := F)).wp_run (D (F := F)) 𝒱 (EH := EH) (P := P (flat m) (table m)) κ d 0) $$ [Hst Hp Ht Ht0 Ht1 Hi0 Hi1 Ho0 Ho1 Hr Hb Hts]
  isplitr; · iexact Hctx
  isplitl [Hst]; · iexact Hst
  isplitl [Ht0 Ht1 Hi0 Hi1 Ho0 Ho1]
  · rw [st_eq]
    isplitl [Ht0 Hi0 Ho0]
    · isplitl [Ht0]; · iexact Ht0
      isplitl [Hi0]; · iexact Hi0
      iexists _; iexact Ho0
    · isplitl [Ht1]; · iexact Ht1
      isplitl [Hi1]; · iexact Hi1
      iexists _; iexact Ho1
  iintro ⟨Hst, Hdn⟩
  ihave Hdn := (Entails.of_eq (dn_eq m d)) $$ Hdn
  ihave Ho := (Entails.of_eq (rows_split d (rows m d)).symm) $$ Hdn
  -- the reshape of the gathered rows
  iapply (wp_hlo_within 𝒱 (SparseCore.T d) none Set.univ (op := opBack) (S := ({o', r'} : Finset (DevRef τ sig))) hBack (V := V1 m d)) $$ [Hb Ho Hr]
  · isplitl [Hb]; · iexact Hb
    unfold held
    rw [SparseCore.bigSep_insert' (by decide), bigSep_singleton, show V1 m d o' = rows m d from Function.update_self _ _ _,
      show V1 m d r' = m (rLoc d) from Function.update_of_ne (show r' ≠ o' by decide) _ _]
    isplitl [Ho]; · iexact Ho
    iexact Hr
  iintro ⟨Hb, Hheld⟩
  ihave Hh := (Entails.of_eq (show (held (T d) ({o', r'} : Finset (DevRef τ sig)) ((opBack (F := F)).result (V1 m d)) : sProp 𝕄)
      = iprop((oLoc d ↦{fullShare} (opBack (F := F)).result (V1 m d) o') ∗ rLoc d ↦{fullShare} result m d) by
    unfold held
    rw [SparseCore.bigSep_insert' (by decide), bigSep_singleton, result_back m d (V1 m d) (Function.update_self _ _ _)])) $$ Hheld
  icases Hh with ⟨-, Hr⟩
  rw [wp_ret]; imodintro; imodintro
  isplitl [Hst]; · iexact Hst
  isplitr [Hb Hts]
  · isplitl [Hp]; · iexact Hp
    isplitl [Ht]; · iexact Ht
    iexact Hr
  isplitl [Hb] <;> iassumption

/-! ## What is read of a final state -/

def fq (d : Dev nD) (s' : Phys nD τ sig (Elt F)) : Prop :=
  s'.mem.mem (rLoc d) = result m d ∧ s'.mem.mem (pLoc d) = m (pLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hp, Ht, Hr⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%hp, HSI, -⟩
  ihave H := (persistent_entails_right (SI_pointsTo_agree (st := s') (ℓ := tLoc d) (I := Finset.univ) (q := Transfers.shareDrop fullShare 2)
    (f := table m d))) $$ [HSI Ht]
  · isplitl [HSI] <;> iassumption
  icases H with ⟨%ht, HSI, -⟩
  ihave H := (SI_pointsTo_agree (st := s') (ℓ := rLoc d) (I := Finset.univ) (q := fullShare) (f := result m d)) $$ [HSI Hr]
  · isplitl [HSI] <;> iassumption
  icases H with %hr
  ipureintro
  exact ⟨funext fun i => hr i (Finset.mem_univ i), funext fun i => hp i (Finset.mem_univ i), funext fun i => ht i (Finset.mem_univ i)⟩

/-- What is claimed of the final state: the result, the two arguments, and every semaphore at zero. -/
def QC : PUnit × MemSt nD τ sig (Elt F) → Prop := fun r =>
  (∀ c : Dev nD, r.2.mem (rLoc c) = result m c ∧ r.2.mem (pLoc c) = m (pLoc c) ∧ r.2.mem (tLoc c) = m (tLoc c)) ∧ r.2.sem = fun _ => 0

/-- Every word of the index array names a row of the table. -/
def InRange : Prop := ∀ (d : Dev nD) (j : S16x128.Idx), ((m (pLoc d) : S16x128.Idx → BitVec 32) j).toNat < 128

theorem run_main [∀ e, Nonempty (Elt F e)] (h : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (flat m) (table m)) (A := ∅) facts v₀
    (fun q _ => match q with | 0 => scalarObl (flat m) (table m) (fun d _ => h d _))
    (fun q hq => match q with | 0 => nomatch hq)
    (fun q hq => match q with | 0 => nomatch hq)
    m ρ main (fun _ => iprop(emp)) (FIN m) (u₀ (F := F)) (sep_elim_left.trans (hu₀ (flat m) (table m))) (hmain m ρ) (fq m) (hfin m) (QC m)
    (fun _ h hz => ⟨h, hz⟩)

end Cert.Proof.Rows

end
-- ==== Proof.Value.lean ====
/-
  The values: the range precondition read as a bound on every word, and the reference's composed term — wrap, mask,
  gather, select — equal to the kernel's result where every word is below 128.
-/
module

public import proofs.«01_k».proof.Proof.Launch
public import proofs.«01_k».proof.Proof.Gen.Pre_prefix_in_range
public import proofs.«01_k».proof.Proof.Gen.ReferenceIdeal.Run
public import Idealize.ShloMosaic.Lib.ReduceAll
public import Idealize.ShloMosaic.Lib.WordArith
public import Idealize.ShloMosaic.Lib.Pipeline.Value

@[expose] public section

set_option maxRecDepth 16384

noncomputable section

namespace Cert.Proof.Rows

open Idealize.ShloMosaic Idealize.ShloMosaic.WordArith

variable {F : FTy → Type}

/-! ## Words in range -/

theorem word_lt_of_bounds {w : BitVec 32} (h : IntOp.andi (IntOp.cmpi .sge w 0#32) (IntOp.cmpi .slt w 128#32) = 1#1) :
    w.toNat < 128 := by
  simp only [IntOp.cmpi, andi_ofBool, ofBool_eq_one_iff, Bool.and_eq_true, BitVec.sle_eq_decide, BitVec.slt_eq_decide,
    decide_eq_true_eq, BitVec.toInt_eq_toNat_cond, BitVec.toNat_ofNat, Nat.reducePow, Nat.reduceMod] at h
  have := w.isLt
  omega

theorem word_toInt {w : BitVec 32} (h : w.toNat < 128) : w.toInt = (w.toNat : Int) := by
  rw [BitVec.toInt_eq_toNat_cond, if_pos (by omega)]

theorem word_not_neg {w : BitVec 32} (h : w.toNat < 128) : IntOp.cmpi .slt w 0#32 = 0#1 := by
  have e : w.slt 0#32 = false := by
    rw [BitVec.slt_eq_decide, word_toInt h]; simp
  change BitVec.ofBool (w.slt 0#32) = 0#1
  rw [e]; rfl

theorem word_in {w : BitVec 32} (h : w.toNat < 128) :
    IntOp.andi (IntOp.cmpi .sge w 0#32) (IntOp.cmpi .sle w 127#32) = 1#1 := by
  simp only [IntOp.cmpi, andi_ofBool, ofBool_eq_one_iff, Bool.and_eq_true, BitVec.sle_eq_decide,
    decide_eq_true_eq, word_toInt h]
  constructor
  · simp
  · change (w.toNat : Int) ≤ 127; omega

/-- The precondition bounds every word of the index array. -/
theorem in_range_of_pre [FloatOps F] (x : IVec Cert.Pre_prefix_in_range.S16x128 32) (y : FVec F Cert.Pre_prefix_in_range.S128x18432 .f32)
    (h : Cert.Pre_prefix_in_range.fn x y = fun _ => 1#1) (j : Cert.Pre_prefix_in_range.S16x128.Idx) : (x j).toNat < 128 := by
  have : Subsingleton Cert.Pre_prefix_in_range.S_.Idx := ⟨fun a b => funext fun k => k.elim0⟩
  have e := Host.reduce_andi_all _ _ _ _ (fun k => k.elim0) (congrFun h fun k => k.elim0) j
  exact word_lt_of_bounds e

/-! ## The reference's gather -/

section Reference

open Cert.ReferenceIdeal Cert.ReferenceIdeal.Gen

/-- The index of one word of the reference's index array. -/
def wIdx (b : Fin 16) (p : Fin 128) : S16x128x1.Idx := fun
  | 0 => b
  | 1 => p
  | 2 => (0 : Fin 1)

/-- The reference's gather reads the row its word names, clamped into the table. -/
theorem gather_at (tb : S128x18432.Idx → F .f32) (ix : IVec S16x128x1 32) (j : S16x128x18432.Idx)
    (k : S128x18432.Idx) (h0 : (k 0).val = min (ix (wIdx (j 0) (j 1))).toInt.toNat 127) (h1 : (k 1).val = (j 2).val) :
    Host.gather gather_S128x18432_S16x128x1_S16x128x18432_2_0_n_n_0_2_118432 tb ix j = tb k := by
  unfold Host.gather
  refine congrArg tb (funext fun a => Fin.ext ?_)
  have hs : GatherDims.siIdx gather_S128x18432_S16x128x1_S16x128x18432_2_0_n_n_0_2_118432 j ⟨0, by decide⟩ = wIdx (j 0) (j 1) := by
    funext b
    match b with
    | 0 => rfl
    | 1 => rfl
    | 2 => rfl
  match a with
  | 0 =>
    refine Eq.trans ?_ h0.symm
    rw [← hs]; rfl
  | 1 =>
    refine Eq.trans ?_ h1.symm
    change 0 + 0 + (j 2).val = _
    omega

/-- The index array as the reference's gather takes it: a negative word moved up by the table's rows, one more axis. -/
abbrev wrapped (x : IVec S16x128 32) : IVec S16x128x1 32 :=
  broadcastInDim S16x128x1 ![0, 1] bcast_S16x128_S16x128x1_0_1
    (select (cmpi .slt x (broadcastInDim S16x128 ![] bcast_S_S16x128 (constantI S_ 32 0#32)))
      (addi x (broadcastInDim S16x128 ![] bcast_S_S16x128 (constantI S_ 32 128#32))) x)

/-- Where the words are below 128, wrapping changes none. -/
theorem wrapped_at (x : IVec S16x128 32) (hx : ∀ j, (x j).toNat < 128) (i : S16x128x1.Idx) (k : S16x128.Idx)
    (h0 : (k 0).val = (i 0).val) (h1 : (k 1).val = (i 1).val) : wrapped x i = x k := by
  refine (broadcastInDim_apply _ _ _ i k fun a => ?_).trans ?_
  · match a with
    | 0 => exact h0
    | 1 => exact h1
  · change Scalar.select (IntOp.cmpi .slt (x k) 0#32) _ (x k) = x k
    rw [word_not_neg (hx k)]; rfl

/-- The reference's composed term at one index, where the words are below 128: the table's entry in the word's row. -/
theorem term_at [FloatOps F] (x : IVec S16x128 32) (tb : FVec F S128x18432 .f32) (hx : ∀ j, (x j).toNat < 128)
    (j : S16x128x18432.Idx) (k : S16x128.Idx) (hk0 : (k 0).val = (j 0).val) (hk1 : (k 1).val = (j 1).val)
    (l : S128x18432.Idx) (hl0 : (l 0).val = (x k).toNat) (hl1 : (l 1).val = (j 2).val) :
    select (broadcastInDim S16x128x18432 ![0, 1] bcast_S16x128_S16x128x18432_0_1
        (Host.reduce IntOp.andi
          (andi (cmpi .sge (wrapped x) (broadcastInDim S16x128x1 ![] bcast_S_S16x128x1 (constantI S_ 32 0#32)))
            (cmpi .sle (wrapped x) (broadcastInDim S16x128x1 ![0, 1, 2] bcast_S1x1x1_S16x128x1_0_1_2
              (broadcastInDim S1x1x1 ![2] bcast_S1_S1x1x1_2 (constantI S1 32 127#32)))))
          (constantI S_ 1 1#1) reducesTo_S16x128x1_S16x128_d2 h_S_))
      (Host.gather gather_S128x18432_S16x128x1_S16x128x18432_2_0_n_n_0_2_118432 tb (wrapped x))
      (broadcastInDim S16x128x18432 ![] bcast_S_S16x128x18432 (constant S_ .f32 0x7FC00000#32)) j = tb l := by
  have hw : ∀ i, ((wrapped x) i).toNat < 128 := fun i => by
    rw [wrapped_at x hx i (fun | 0 => i 0 | 1 => i 1) rfl rfl]; exact hx _
  have hmask : ∀ q, Host.reduce IntOp.andi
          (andi (cmpi .sge (wrapped x) (broadcastInDim S16x128x1 ![] bcast_S_S16x128x1 (constantI S_ 32 0#32)))
            (cmpi .sle (wrapped x) (broadcastInDim S16x128x1 ![0, 1, 2] bcast_S1x1x1_S16x128x1_0_1_2
              (broadcastInDim S1x1x1 ![2] bcast_S1_S1x1x1_2 (constantI S1 32 127#32)))))
          (constantI S_ 1 1#1) reducesTo_S16x128x1_S16x128_d2 h_S_ q = 1#1 := fun q =>
    Host.reduce_andi_one _ _ _ _ q rfl fun i => word_in (hw i)
  have hmask' := funext hmask
  rw [hmask']
  have hg := gather_at tb (wrapped x) j l (by
    rw [wrapped_at x hx _ k hk0 hk1, word_toInt (hx k), hl0]
    have := hx k; omega) hl1
  exact hg

end Reference

/-! ## The kernel's result -/

section Kernel

open Cert.KernelIdeal Cert.KernelIdeal.Gen

/-- The flat index array at row `128 b + p` is the index array at `(b, p)`. -/
theorem flat_at (x : IVec S16x128 32) (r : Fin 2048) (k : S16x128.Idx) (h : r.val = 128 * (k 0).val + (k 1).val) :
    shapeCast S2048 x shapeCasts_S16x128_S2048 (iIdx r) = x k := by
  refine shapeCast_apply x _ _ k ?_
  refine (Shape.rowMajor_val_two k).trans (Eq.trans ?_ (Shape.rowMajor_val_one (iIdx r)).symm)
  change (k 0).val * 128 + (k 1).val = r.val
  omega

/-- The kernel's result at one index: the table's entry in the word's row. -/
theorem result_at (x : IVec S16x128 32) (tb : S128x18432.Idx → F .f32) (hx : ∀ j, (x j).toNat < 128)
    (j : S16x128x18432.Idx) (k : S16x128.Idx) (hk0 : (k 0).val = (j 0).val) (hk1 : (k 1).val = (j 1).val) :
    shapeCast S16x128x18432 (gathered (shapeCast S2048 x shapeCasts_S16x128_S2048) tb) shapeCasts_S2048x18432_S16x128x18432 j
      = tb (tIdx (x k) (j 2)) := by
  have h0 : (k 0).val < 16 := (k 0).isLt
  have h1 : (k 1).val < 128 := (k 1).isLt
  let r : Fin 2048 := ⟨128 * (k 0).val + (k 1).val, by omega⟩
  let i : S2048x18432.Idx := fun
    | 0 => r
    | 1 => j 2
  refine (shapeCast_apply _ _ j i ?_).trans ?_
  · refine (Shape.rowMajor_val_two i).trans (Eq.trans ?_ (Shape.rowMajor_val_three j).symm)
    change (128 * (k 0).val + (k 1).val) * 18432 + (j 2).val = ((j 0).val * 128 + (j 1).val) * 18432 + (j 2).val
    rw [hk0, hk1, Nat.mul_comm 128]
  · exact congrArg (fun w => tb (tIdx w (j 2))) (flat_at x r k rfl)

/-- The reference's composed term is the kernel's result, where the words are below 128. -/
theorem term_eq_result [FloatOps F] (m : (ℓ : Loc nD τ sig) → Buf (Elt F) ℓ) (d : Dev nD) (h : InRange m) :
    (select (broadcastInDim Cert.ReferenceIdeal.S16x128x18432 ![0, 1] Cert.ReferenceIdeal.Facts₀.bcast_S16x128_S16x128x18432_0_1
        (Host.reduce IntOp.andi
          (andi (cmpi .sge (wrapped (m (pLoc d))) (broadcastInDim Cert.ReferenceIdeal.S16x128x1 ![]
              Cert.ReferenceIdeal.Facts₀.bcast_S_S16x128x1 (constantI Cert.ReferenceIdeal.S_ 32 0#32)))
            (cmpi .sle (wrapped (m (pLoc d))) (broadcastInDim Cert.ReferenceIdeal.S16x128x1 ![0, 1, 2]
              Cert.ReferenceIdeal.Facts₀.bcast_S1x1x1_S16x128x1_0_1_2 (broadcastInDim Cert.ReferenceIdeal.S1x1x1 ![2]
                Cert.ReferenceIdeal.Facts₀.bcast_S1_S1x1x1_2 (constantI Cert.ReferenceIdeal.S1 32 127#32)))))
          (constantI Cert.ReferenceIdeal.S_ 1 1#1) Cert.ReferenceIdeal.Facts₀.reducesTo_S16x128x1_S16x128_d2
          Cert.ReferenceIdeal.Facts₀.h_S_))
      (Host.gather Cert.ReferenceIdeal.gather_S128x18432_S16x128x1_S16x128x18432_2_0_n_n_0_2_118432 (m (tLoc d)) (wrapped (m (pLoc d))))
      (broadcastInDim Cert.ReferenceIdeal.S16x128x18432 ![] Cert.ReferenceIdeal.Facts₀.bcast_S_S16x128x18432
        (constant Cert.ReferenceIdeal.S_ .f32 0x7FC00000#32)) : FVec F Cert.ReferenceIdeal.S16x128x18432 .f32)
      = result m d := by
  funext j
  let k : S16x128.Idx := fun
    | 0 => j 0
    | 1 => j 1
  have hk : (m (pLoc d) k).toNat < 128 := h d k
  refine (term_at (m (pLoc d)) (m (tLoc d)) (h d) j k rfl rfl (tIdx (m (pLoc d) k) (j 2)) ?_ rfl).trans ?_
  · exact Nat.mod_eq_of_lt hk
  · exact (result_at (m (pLoc d)) (m (tLoc d)) (h d) j k rfl rfl).symm

end Kernel

end Cert.Proof.Rows

end
-- ==== Proof.lean ====
/-
  The proof of `Cert.Claim` (proofs.«01_k».proof.Defs): the two programs' frames from the ONE run of `Proof/Launch.lean`,
  the references' from their generated runs, and the two value claims from that run and the equation of `Proof/Value.lean`.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_prefix_in_range
public import proofs.«01_k».proof.Proof.Gen.ReferenceIdeal.Run
public import proofs.«01_k».proof.Proof.Gen.Reference.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Proof.Rows

instance : Cert.Kernel.Facts := Cert.Kernel.Gen.facts
instance : Cert.Reference.Facts := Cert.Reference.Gen.facts
instance : Cert.Pre_prefix_in_range.Facts := Cert.Pre_prefix_in_range.Gen.facts

variable {F : FTy → Type} [FloatOps F]

/-- The precondition at the run's memory: every word of the index array is below 128. -/
theorem inRange {m : (ℓ : Loc Cert.KernelIdeal.nD Cert.KernelIdeal.τ Cert.KernelIdeal.sig) → Buf (Elt F) ℓ}
    (h : ∀ d, Cert.Pre_prefix_in_range.fn (F := F) (m (pLoc d)) (m (tLoc d)) = fun _ => 1#1) : InRange m :=
  fun d j => in_range_of_pre _ _ (h d) j

/-! ## The frames -/

theorem frame_kernel_ideal : Cert.quiescent_KernelIdeal := fun m ρ h =>
  (θ_run Cert.KernelIdeal.defs _ _).mono (fun _ h => ⟨fun c => (h.1 c).2, h.2⟩) (run_main (F := Ideal) m ρ (inRange h))

theorem frame_kernel : Cert.quiescent_Kernel := fun m ρ h =>
  (θ_run Cert.KernelIdeal.defs _ _).mono (fun _ h => ⟨fun c => (h.1 c).2, h.2⟩) (run_main (F := Bits) m ρ (inRange h))

theorem frame_reference_ideal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference : Cert.quiescent_Reference := fun m ρ _ =>
  (θ_run Cert.Reference.defs _ _).mono
    (fun r h => ⟨fun c => (h c).2, Idealize.ShloMosaic.sem_eq_zero_of_no_sems (by decide) r.2⟩)
    (Cert.Reference.Value.run (F := Bits) m ρ)

/-! ## The values -/

theorem algebraic : Cert.algebraic_KernelIdeal_ReferenceIdeal := fun m ρ m' ρ' h hagree => by
  refine ⟨fun c => result m c, (θ_run Cert.KernelIdeal.defs _ _).mono (fun _ h c => h.1 c)
    (run_main (F := Ideal) m ρ (inRange h)), ?_⟩
  refine (θ_run Cert.ReferenceIdeal.defs _ _).mono (fun _ hr c => ⟨(hr c).1.trans ?_, (hr c).2⟩)
    (Cert.ReferenceIdeal.Value.run (F := Ideal) m' ρ')
  rw [(hagree c).1, (hagree c).2]
  exact term_eq_result (F := Ideal) m c (inRange h)

theorem bitexact : Cert.bitexact_Kernel_Reference := fun m ρ m' ρ' h hagree => by
  refine ⟨fun c => result (F := Bits) m c, (θ_run Cert.KernelIdeal.defs _ _).mono (fun _ h c => h.1 c)
    (run_main (F := Bits) m ρ (inRange h)), ?_⟩
  refine (θ_run Cert.Reference.defs _ _).mono (fun _ hr c => ⟨(hr c).1.trans ?_, (hr c).2⟩)
    (Cert.Reference.Value.run (F := Bits) m' ρ')
  rw [(hagree c).1, (hagree c).2]
  exact term_eq_result (F := Bits) m c (inRange h)

theorem claim : Cert.Claim := ⟨Cert.Kernel.Gen.facts, Cert.KernelIdeal.Gen.facts, Cert.ReferenceIdeal.Gen.facts,
  Cert.Reference.Gen.facts, Cert.Pre_prefix_in_range.Gen.facts,
  frame_kernel, frame_kernel_ideal, frame_reference_ideal, fun m ρ _ => frame_reference_ideal m ρ trivial, frame_reference,
  trivial, algebraic, bitexact⟩

end Cert.Proof

end
